-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x256x256 : Shape := ⟨3, ![1024, 256, 256]⟩
abbrev S1024x32896 : Shape := ⟨2, ![1024, 32896]⟩
abbrev S64x128x256 : Shape := ⟨3, ![64, 128, 256]⟩
abbrev S64x64x128 : Shape := ⟨3, ![64, 64, 128]⟩
abbrev S64x32896 : Shape := ⟨2, ![64, 32896]⟩
abbrev S64x8x256 : Shape := ⟨3, ![64, 8, 256]⟩
abbrev S8x64x256 : Shape := ⟨3, ![8, 64, 256]⟩
abbrev S1x64x256 : Shape := ⟨3, ![1, 64, 256]⟩
abbrev S64x256 : Shape := ⟨2, ![64, 256]⟩
abbrev S1x64x255 : Shape := ⟨3, ![1, 64, 255]⟩
abbrev S64x255 : Shape := ⟨2, ![64, 255]⟩
abbrev S1x64x254 : Shape := ⟨3, ![1, 64, 254]⟩
abbrev S64x254 : Shape := ⟨2, ![64, 254]⟩
abbrev S1x64x253 : Shape := ⟨3, ![1, 64, 253]⟩
abbrev S64x253 : Shape := ⟨2, ![64, 253]⟩
abbrev S1x64x252 : Shape := ⟨3, ![1, 64, 252]⟩
abbrev S64x252 : Shape := ⟨2, ![64, 252]⟩
abbrev S1x64x251 : Shape := ⟨3, ![1, 64, 251]⟩
abbrev S64x251 : Shape := ⟨2, ![64, 251]⟩
abbrev S1x64x250 : Shape := ⟨3, ![1, 64, 250]⟩
abbrev S64x250 : Shape := ⟨2, ![64, 250]⟩
abbrev S1x64x249 : Shape := ⟨3, ![1, 64, 249]⟩
abbrev S64x249 : Shape := ⟨2, ![64, 249]⟩
abbrev S1x64x248 : Shape := ⟨3, ![1, 64, 248]⟩
abbrev S64x248 : Shape := ⟨2, ![64, 248]⟩
abbrev S1x64x247 : Shape := ⟨3, ![1, 64, 247]⟩
abbrev S64x247 : Shape := ⟨2, ![64, 247]⟩
abbrev S1x64x246 : Shape := ⟨3, ![1, 64, 246]⟩
abbrev S64x246 : Shape := ⟨2, ![64, 246]⟩
abbrev S1x64x245 : Shape := ⟨3, ![1, 64, 245]⟩
abbrev S64x245 : Shape := ⟨2, ![64, 245]⟩
abbrev S1x64x244 : Shape := ⟨3, ![1, 64, 244]⟩
abbrev S64x244 : Shape := ⟨2, ![64, 244]⟩
abbrev S1x64x243 : Shape := ⟨3, ![1, 64, 243]⟩
abbrev S64x243 : Shape := ⟨2, ![64, 243]⟩
abbrev S1x64x242 : Shape := ⟨3, ![1, 64, 242]⟩
abbrev S64x242 : Shape := ⟨2, ![64, 242]⟩
abbrev S1x64x241 : Shape := ⟨3, ![1, 64, 241]⟩
abbrev S64x241 : Shape := ⟨2, ![64, 241]⟩
abbrev S1x64x240 : Shape := ⟨3, ![1, 64, 240]⟩
abbrev S64x240 : Shape := ⟨2, ![64, 240]⟩
abbrev S1x64x239 : Shape := ⟨3, ![1, 64, 239]⟩
abbrev S64x239 : Shape := ⟨2, ![64, 239]⟩
abbrev S1x64x238 : Shape := ⟨3, ![1, 64, 238]⟩
abbrev S64x238 : Shape := ⟨2, ![64, 238]⟩
abbrev S1x64x237 : Shape := ⟨3, ![1, 64, 237]⟩
abbrev S64x237 : Shape := ⟨2, ![64, 237]⟩
abbrev S1x64x236 : Shape := ⟨3, ![1, 64, 236]⟩
abbrev S64x236 : Shape := ⟨2, ![64, 236]⟩
abbrev S1x64x235 : Shape := ⟨3, ![1, 64, 235]⟩
abbrev S64x235 : Shape := ⟨2, ![64, 235]⟩
abbrev S1x64x234 : Shape := ⟨3, ![1, 64, 234]⟩
abbrev S64x234 : Shape := ⟨2, ![64, 234]⟩
abbrev S1x64x233 : Shape := ⟨3, ![1, 64, 233]⟩
abbrev S64x233 : Shape := ⟨2, ![64, 233]⟩
abbrev S1x64x232 : Shape := ⟨3, ![1, 64, 232]⟩
abbrev S64x232 : Shape := ⟨2, ![64, 232]⟩
abbrev S1x64x231 : Shape := ⟨3, ![1, 64, 231]⟩
abbrev S64x231 : Shape := ⟨2, ![64, 231]⟩
abbrev S1x64x230 : Shape := ⟨3, ![1, 64, 230]⟩
abbrev S64x230 : Shape := ⟨2, ![64, 230]⟩
abbrev S1x64x229 : Shape := ⟨3, ![1, 64, 229]⟩
abbrev S64x229 : Shape := ⟨2, ![64, 229]⟩
abbrev S1x64x228 : Shape := ⟨3, ![1, 64, 228]⟩
abbrev S64x228 : Shape := ⟨2, ![64, 228]⟩
abbrev S1x64x227 : Shape := ⟨3, ![1, 64, 227]⟩
abbrev S64x227 : Shape := ⟨2, ![64, 227]⟩
abbrev S1x64x226 : Shape := ⟨3, ![1, 64, 226]⟩
abbrev S64x226 : Shape := ⟨2, ![64, 226]⟩
abbrev S1x64x225 : Shape := ⟨3, ![1, 64, 225]⟩
abbrev S64x225 : Shape := ⟨2, ![64, 225]⟩
abbrev S1x64x224 : Shape := ⟨3, ![1, 64, 224]⟩
abbrev S64x224 : Shape := ⟨2, ![64, 224]⟩
abbrev S1x64x223 : Shape := ⟨3, ![1, 64, 223]⟩
abbrev S64x223 : Shape := ⟨2, ![64, 223]⟩
abbrev S1x64x222 : Shape := ⟨3, ![1, 64, 222]⟩
abbrev S64x222 : Shape := ⟨2, ![64, 222]⟩
abbrev S1x64x221 : Shape := ⟨3, ![1, 64, 221]⟩
abbrev S64x221 : Shape := ⟨2, ![64, 221]⟩
abbrev S1x64x220 : Shape := ⟨3, ![1, 64, 220]⟩
abbrev S64x220 : Shape := ⟨2, ![64, 220]⟩
abbrev S1x64x219 : Shape := ⟨3, ![1, 64, 219]⟩
abbrev S64x219 : Shape := ⟨2, ![64, 219]⟩
abbrev S1x64x218 : Shape := ⟨3, ![1, 64, 218]⟩
abbrev S64x218 : Shape := ⟨2, ![64, 218]⟩
abbrev S1x64x217 : Shape := ⟨3, ![1, 64, 217]⟩
abbrev S64x217 : Shape := ⟨2, ![64, 217]⟩
abbrev S1x64x216 : Shape := ⟨3, ![1, 64, 216]⟩
abbrev S64x216 : Shape := ⟨2, ![64, 216]⟩
abbrev S1x64x215 : Shape := ⟨3, ![1, 64, 215]⟩
abbrev S64x215 : Shape := ⟨2, ![64, 215]⟩
abbrev S1x64x214 : Shape := ⟨3, ![1, 64, 214]⟩
abbrev S64x214 : Shape := ⟨2, ![64, 214]⟩
abbrev S1x64x213 : Shape := ⟨3, ![1, 64, 213]⟩
abbrev S64x213 : Shape := ⟨2, ![64, 213]⟩
abbrev S1x64x212 : Shape := ⟨3, ![1, 64, 212]⟩
abbrev S64x212 : Shape := ⟨2, ![64, 212]⟩
abbrev S1x64x211 : Shape := ⟨3, ![1, 64, 211]⟩
abbrev S64x211 : Shape := ⟨2, ![64, 211]⟩
abbrev S1x64x210 : Shape := ⟨3, ![1, 64, 210]⟩
abbrev S64x210 : Shape := ⟨2, ![64, 210]⟩
abbrev S1x64x209 : Shape := ⟨3, ![1, 64, 209]⟩
abbrev S64x209 : Shape := ⟨2, ![64, 209]⟩
abbrev S1x64x208 : Shape := ⟨3, ![1, 64, 208]⟩
abbrev S64x208 : Shape := ⟨2, ![64, 208]⟩
abbrev S1x64x207 : Shape := ⟨3, ![1, 64, 207]⟩
abbrev S64x207 : Shape := ⟨2, ![64, 207]⟩
abbrev S1x64x206 : Shape := ⟨3, ![1, 64, 206]⟩
abbrev S64x206 : Shape := ⟨2, ![64, 206]⟩
abbrev S1x64x205 : Shape := ⟨3, ![1, 64, 205]⟩
abbrev S64x205 : Shape := ⟨2, ![64, 205]⟩
abbrev S1x64x204 : Shape := ⟨3, ![1, 64, 204]⟩
abbrev S64x204 : Shape := ⟨2, ![64, 204]⟩
abbrev S1x64x203 : Shape := ⟨3, ![1, 64, 203]⟩
abbrev S64x203 : Shape := ⟨2, ![64, 203]⟩
abbrev S1x64x202 : Shape := ⟨3, ![1, 64, 202]⟩
abbrev S64x202 : Shape := ⟨2, ![64, 202]⟩
abbrev S1x64x201 : Shape := ⟨3, ![1, 64, 201]⟩
abbrev S64x201 : Shape := ⟨2, ![64, 201]⟩
abbrev S1x64x200 : Shape := ⟨3, ![1, 64, 200]⟩
abbrev S64x200 : Shape := ⟨2, ![64, 200]⟩
abbrev S1x64x199 : Shape := ⟨3, ![1, 64, 199]⟩
abbrev S64x199 : Shape := ⟨2, ![64, 199]⟩
abbrev S1x64x198 : Shape := ⟨3, ![1, 64, 198]⟩
abbrev S64x198 : Shape := ⟨2, ![64, 198]⟩
abbrev S1x64x197 : Shape := ⟨3, ![1, 64, 197]⟩
abbrev S64x197 : Shape := ⟨2, ![64, 197]⟩
abbrev S1x64x196 : Shape := ⟨3, ![1, 64, 196]⟩
abbrev S64x196 : Shape := ⟨2, ![64, 196]⟩
abbrev S1x64x195 : Shape := ⟨3, ![1, 64, 195]⟩
abbrev S64x195 : Shape := ⟨2, ![64, 195]⟩
abbrev S1x64x194 : Shape := ⟨3, ![1, 64, 194]⟩
abbrev S64x194 : Shape := ⟨2, ![64, 194]⟩
abbrev S1x64x193 : Shape := ⟨3, ![1, 64, 193]⟩
abbrev S64x193 : Shape := ⟨2, ![64, 193]⟩
abbrev S1x64x192 : Shape := ⟨3, ![1, 64, 192]⟩
abbrev S64x192 : Shape := ⟨2, ![64, 192]⟩
abbrev S1x64x191 : Shape := ⟨3, ![1, 64, 191]⟩
abbrev S64x191 : Shape := ⟨2, ![64, 191]⟩
abbrev S1x64x190 : Shape := ⟨3, ![1, 64, 190]⟩
abbrev S64x190 : Shape := ⟨2, ![64, 190]⟩
abbrev S1x64x189 : Shape := ⟨3, ![1, 64, 189]⟩
abbrev S64x189 : Shape := ⟨2, ![64, 189]⟩
abbrev S1x64x188 : Shape := ⟨3, ![1, 64, 188]⟩
abbrev S64x188 : Shape := ⟨2, ![64, 188]⟩
abbrev S1x64x187 : Shape := ⟨3, ![1, 64, 187]⟩
abbrev S64x187 : Shape := ⟨2, ![64, 187]⟩
abbrev S1x64x186 : Shape := ⟨3, ![1, 64, 186]⟩
abbrev S64x186 : Shape := ⟨2, ![64, 186]⟩
abbrev S1x64x185 : Shape := ⟨3, ![1, 64, 185]⟩
abbrev S64x185 : Shape := ⟨2, ![64, 185]⟩
abbrev S1x64x184 : Shape := ⟨3, ![1, 64, 184]⟩
abbrev S64x184 : Shape := ⟨2, ![64, 184]⟩
abbrev S1x64x183 : Shape := ⟨3, ![1, 64, 183]⟩
abbrev S64x183 : Shape := ⟨2, ![64, 183]⟩
abbrev S1x64x182 : Shape := ⟨3, ![1, 64, 182]⟩
abbrev S64x182 : Shape := ⟨2, ![64, 182]⟩
abbrev S1x64x181 : Shape := ⟨3, ![1, 64, 181]⟩
abbrev S64x181 : Shape := ⟨2, ![64, 181]⟩
abbrev S1x64x180 : Shape := ⟨3, ![1, 64, 180]⟩
abbrev S64x180 : Shape := ⟨2, ![64, 180]⟩
abbrev S1x64x179 : Shape := ⟨3, ![1, 64, 179]⟩
abbrev S64x179 : Shape := ⟨2, ![64, 179]⟩
abbrev S1x64x178 : Shape := ⟨3, ![1, 64, 178]⟩
abbrev S64x178 : Shape := ⟨2, ![64, 178]⟩
abbrev S1x64x177 : Shape := ⟨3, ![1, 64, 177]⟩
abbrev S64x177 : Shape := ⟨2, ![64, 177]⟩
abbrev S1x64x176 : Shape := ⟨3, ![1, 64, 176]⟩
abbrev S64x176 : Shape := ⟨2, ![64, 176]⟩
abbrev S1x64x175 : Shape := ⟨3, ![1, 64, 175]⟩
abbrev S64x175 : Shape := ⟨2, ![64, 175]⟩
abbrev S1x64x174 : Shape := ⟨3, ![1, 64, 174]⟩
abbrev S64x174 : Shape := ⟨2, ![64, 174]⟩
abbrev S1x64x173 : Shape := ⟨3, ![1, 64, 173]⟩
abbrev S64x173 : Shape := ⟨2, ![64, 173]⟩
abbrev S1x64x172 : Shape := ⟨3, ![1, 64, 172]⟩
abbrev S64x172 : Shape := ⟨2, ![64, 172]⟩
abbrev S1x64x171 : Shape := ⟨3, ![1, 64, 171]⟩
abbrev S64x171 : Shape := ⟨2, ![64, 171]⟩
abbrev S1x64x170 : Shape := ⟨3, ![1, 64, 170]⟩
abbrev S64x170 : Shape := ⟨2, ![64, 170]⟩
abbrev S1x64x169 : Shape := ⟨3, ![1, 64, 169]⟩
abbrev S64x169 : Shape := ⟨2, ![64, 169]⟩
abbrev S1x64x168 : Shape := ⟨3, ![1, 64, 168]⟩
abbrev S64x168 : Shape := ⟨2, ![64, 168]⟩
abbrev S1x64x167 : Shape := ⟨3, ![1, 64, 167]⟩
abbrev S64x167 : Shape := ⟨2, ![64, 167]⟩
abbrev S1x64x166 : Shape := ⟨3, ![1, 64, 166]⟩
abbrev S64x166 : Shape := ⟨2, ![64, 166]⟩
abbrev S1x64x165 : Shape := ⟨3, ![1, 64, 165]⟩
abbrev S64x165 : Shape := ⟨2, ![64, 165]⟩
abbrev S1x64x164 : Shape := ⟨3, ![1, 64, 164]⟩
abbrev S64x164 : Shape := ⟨2, ![64, 164]⟩
abbrev S1x64x163 : Shape := ⟨3, ![1, 64, 163]⟩
abbrev S64x163 : Shape := ⟨2, ![64, 163]⟩
abbrev S1x64x162 : Shape := ⟨3, ![1, 64, 162]⟩
abbrev S64x162 : Shape := ⟨2, ![64, 162]⟩
abbrev S1x64x161 : Shape := ⟨3, ![1, 64, 161]⟩
abbrev S64x161 : Shape := ⟨2, ![64, 161]⟩
abbrev S1x64x160 : Shape := ⟨3, ![1, 64, 160]⟩
abbrev S64x160 : Shape := ⟨2, ![64, 160]⟩
abbrev S1x64x159 : Shape := ⟨3, ![1, 64, 159]⟩
abbrev S64x159 : Shape := ⟨2, ![64, 159]⟩
abbrev S1x64x158 : Shape := ⟨3, ![1, 64, 158]⟩
abbrev S64x158 : Shape := ⟨2, ![64, 158]⟩
abbrev S1x64x157 : Shape := ⟨3, ![1, 64, 157]⟩
abbrev S64x157 : Shape := ⟨2, ![64, 157]⟩
abbrev S1x64x156 : Shape := ⟨3, ![1, 64, 156]⟩
abbrev S64x156 : Shape := ⟨2, ![64, 156]⟩
abbrev S1x64x155 : Shape := ⟨3, ![1, 64, 155]⟩
abbrev S64x155 : Shape := ⟨2, ![64, 155]⟩
abbrev S1x64x154 : Shape := ⟨3, ![1, 64, 154]⟩
abbrev S64x154 : Shape := ⟨2, ![64, 154]⟩
abbrev S1x64x153 : Shape := ⟨3, ![1, 64, 153]⟩
abbrev S64x153 : Shape := ⟨2, ![64, 153]⟩
abbrev S1x64x152 : Shape := ⟨3, ![1, 64, 152]⟩
abbrev S64x152 : Shape := ⟨2, ![64, 152]⟩
abbrev S1x64x151 : Shape := ⟨3, ![1, 64, 151]⟩
abbrev S64x151 : Shape := ⟨2, ![64, 151]⟩
abbrev S1x64x150 : Shape := ⟨3, ![1, 64, 150]⟩
abbrev S64x150 : Shape := ⟨2, ![64, 150]⟩
abbrev S1x64x149 : Shape := ⟨3, ![1, 64, 149]⟩
abbrev S64x149 : Shape := ⟨2, ![64, 149]⟩
abbrev S1x64x148 : Shape := ⟨3, ![1, 64, 148]⟩
abbrev S64x148 : Shape := ⟨2, ![64, 148]⟩
abbrev S1x64x147 : Shape := ⟨3, ![1, 64, 147]⟩
abbrev S64x147 : Shape := ⟨2, ![64, 147]⟩
abbrev S1x64x146 : Shape := ⟨3, ![1, 64, 146]⟩
abbrev S64x146 : Shape := ⟨2, ![64, 146]⟩
abbrev S1x64x145 : Shape := ⟨3, ![1, 64, 145]⟩
abbrev S64x145 : Shape := ⟨2, ![64, 145]⟩
abbrev S1x64x144 : Shape := ⟨3, ![1, 64, 144]⟩
abbrev S64x144 : Shape := ⟨2, ![64, 144]⟩
abbrev S1x64x143 : Shape := ⟨3, ![1, 64, 143]⟩
abbrev S64x143 : Shape := ⟨2, ![64, 143]⟩
abbrev S1x64x142 : Shape := ⟨3, ![1, 64, 142]⟩
abbrev S64x142 : Shape := ⟨2, ![64, 142]⟩
abbrev S1x64x141 : Shape := ⟨3, ![1, 64, 141]⟩
abbrev S64x141 : Shape := ⟨2, ![64, 141]⟩
abbrev S1x64x140 : Shape := ⟨3, ![1, 64, 140]⟩
abbrev S64x140 : Shape := ⟨2, ![64, 140]⟩
abbrev S1x64x139 : Shape := ⟨3, ![1, 64, 139]⟩
abbrev S64x139 : Shape := ⟨2, ![64, 139]⟩
abbrev S1x64x138 : Shape := ⟨3, ![1, 64, 138]⟩
abbrev S64x138 : Shape := ⟨2, ![64, 138]⟩
abbrev S1x64x137 : Shape := ⟨3, ![1, 64, 137]⟩
abbrev S64x137 : Shape := ⟨2, ![64, 137]⟩
abbrev S1x64x136 : Shape := ⟨3, ![1, 64, 136]⟩
abbrev S64x136 : Shape := ⟨2, ![64, 136]⟩
abbrev S1x64x135 : Shape := ⟨3, ![1, 64, 135]⟩
abbrev S64x135 : Shape := ⟨2, ![64, 135]⟩
abbrev S1x64x134 : Shape := ⟨3, ![1, 64, 134]⟩
abbrev S64x134 : Shape := ⟨2, ![64, 134]⟩
abbrev S1x64x133 : Shape := ⟨3, ![1, 64, 133]⟩
abbrev S64x133 : Shape := ⟨2, ![64, 133]⟩
abbrev S1x64x132 : Shape := ⟨3, ![1, 64, 132]⟩
abbrev S64x132 : Shape := ⟨2, ![64, 132]⟩
abbrev S1x64x131 : Shape := ⟨3, ![1, 64, 131]⟩
abbrev S64x131 : Shape := ⟨2, ![64, 131]⟩
abbrev S1x64x130 : Shape := ⟨3, ![1, 64, 130]⟩
abbrev S64x130 : Shape := ⟨2, ![64, 130]⟩
abbrev S1x64x129 : Shape := ⟨3, ![1, 64, 129]⟩
abbrev S64x129 : Shape := ⟨2, ![64, 129]⟩
abbrev S64x8x128 : Shape := ⟨3, ![64, 8, 128]⟩
abbrev S8x64x128 : Shape := ⟨3, ![8, 64, 128]⟩
abbrev S1x64x128 : Shape := ⟨3, ![1, 64, 128]⟩
abbrev S64x128 : Shape := ⟨2, ![64, 128]⟩
abbrev S1x64x127 : Shape := ⟨3, ![1, 64, 127]⟩
abbrev S64x127 : Shape := ⟨2, ![64, 127]⟩
abbrev S1x64x126 : Shape := ⟨3, ![1, 64, 126]⟩
abbrev S64x126 : Shape := ⟨2, ![64, 126]⟩
abbrev S1x64x125 : Shape := ⟨3, ![1, 64, 125]⟩
abbrev S64x125 : Shape := ⟨2, ![64, 125]⟩
abbrev S1x64x124 : Shape := ⟨3, ![1, 64, 124]⟩
abbrev S64x124 : Shape := ⟨2, ![64, 124]⟩
abbrev S1x64x123 : Shape := ⟨3, ![1, 64, 123]⟩
abbrev S64x123 : Shape := ⟨2, ![64, 123]⟩
abbrev S1x64x122 : Shape := ⟨3, ![1, 64, 122]⟩
abbrev S64x122 : Shape := ⟨2, ![64, 122]⟩
abbrev S1x64x121 : Shape := ⟨3, ![1, 64, 121]⟩
abbrev S64x121 : Shape := ⟨2, ![64, 121]⟩
abbrev S1x64x120 : Shape := ⟨3, ![1, 64, 120]⟩
abbrev S64x120 : Shape := ⟨2, ![64, 120]⟩
abbrev S1x64x119 : Shape := ⟨3, ![1, 64, 119]⟩
abbrev S64x119 : Shape := ⟨2, ![64, 119]⟩
abbrev S1x64x118 : Shape := ⟨3, ![1, 64, 118]⟩
abbrev S64x118 : Shape := ⟨2, ![64, 118]⟩
abbrev S1x64x117 : Shape := ⟨3, ![1, 64, 117]⟩
abbrev S64x117 : Shape := ⟨2, ![64, 117]⟩
abbrev S1x64x116 : Shape := ⟨3, ![1, 64, 116]⟩
abbrev S64x116 : Shape := ⟨2, ![64, 116]⟩
abbrev S1x64x115 : Shape := ⟨3, ![1, 64, 115]⟩
abbrev S64x115 : Shape := ⟨2, ![64, 115]⟩
abbrev S1x64x114 : Shape := ⟨3, ![1, 64, 114]⟩
abbrev S64x114 : Shape := ⟨2, ![64, 114]⟩
abbrev S1x64x113 : Shape := ⟨3, ![1, 64, 113]⟩
abbrev S64x113 : Shape := ⟨2, ![64, 113]⟩
abbrev S1x64x112 : Shape := ⟨3, ![1, 64, 112]⟩
abbrev S64x112 : Shape := ⟨2, ![64, 112]⟩
abbrev S1x64x111 : Shape := ⟨3, ![1, 64, 111]⟩
abbrev S64x111 : Shape := ⟨2, ![64, 111]⟩
abbrev S1x64x110 : Shape := ⟨3, ![1, 64, 110]⟩
abbrev S64x110 : Shape := ⟨2, ![64, 110]⟩
abbrev S1x64x109 : Shape := ⟨3, ![1, 64, 109]⟩
abbrev S64x109 : Shape := ⟨2, ![64, 109]⟩
abbrev S1x64x108 : Shape := ⟨3, ![1, 64, 108]⟩
abbrev S64x108 : Shape := ⟨2, ![64, 108]⟩
abbrev S1x64x107 : Shape := ⟨3, ![1, 64, 107]⟩
abbrev S64x107 : Shape := ⟨2, ![64, 107]⟩
abbrev S1x64x106 : Shape := ⟨3, ![1, 64, 106]⟩
abbrev S64x106 : Shape := ⟨2, ![64, 106]⟩
abbrev S1x64x105 : Shape := ⟨3, ![1, 64, 105]⟩
abbrev S64x105 : Shape := ⟨2, ![64, 105]⟩
abbrev S1x64x104 : Shape := ⟨3, ![1, 64, 104]⟩
abbrev S64x104 : Shape := ⟨2, ![64, 104]⟩
abbrev S1x64x103 : Shape := ⟨3, ![1, 64, 103]⟩
abbrev S64x103 : Shape := ⟨2, ![64, 103]⟩
abbrev S1x64x102 : Shape := ⟨3, ![1, 64, 102]⟩
abbrev S64x102 : Shape := ⟨2, ![64, 102]⟩
abbrev S1x64x101 : Shape := ⟨3, ![1, 64, 101]⟩
abbrev S64x101 : Shape := ⟨2, ![64, 101]⟩
abbrev S1x64x100 : Shape := ⟨3, ![1, 64, 100]⟩
abbrev S64x100 : Shape := ⟨2, ![64, 100]⟩
abbrev S1x64x99 : Shape := ⟨3, ![1, 64, 99]⟩
abbrev S64x99 : Shape := ⟨2, ![64, 99]⟩
abbrev S1x64x98 : Shape := ⟨3, ![1, 64, 98]⟩
abbrev S64x98 : Shape := ⟨2, ![64, 98]⟩
abbrev S1x64x97 : Shape := ⟨3, ![1, 64, 97]⟩
abbrev S64x97 : Shape := ⟨2, ![64, 97]⟩
abbrev S1x64x96 : Shape := ⟨3, ![1, 64, 96]⟩
abbrev S64x96 : Shape := ⟨2, ![64, 96]⟩
abbrev S1x64x95 : Shape := ⟨3, ![1, 64, 95]⟩
abbrev S64x95 : Shape := ⟨2, ![64, 95]⟩
abbrev S1x64x94 : Shape := ⟨3, ![1, 64, 94]⟩
abbrev S64x94 : Shape := ⟨2, ![64, 94]⟩
abbrev S1x64x93 : Shape := ⟨3, ![1, 64, 93]⟩
abbrev S64x93 : Shape := ⟨2, ![64, 93]⟩
abbrev S1x64x92 : Shape := ⟨3, ![1, 64, 92]⟩
abbrev S64x92 : Shape := ⟨2, ![64, 92]⟩
abbrev S1x64x91 : Shape := ⟨3, ![1, 64, 91]⟩
abbrev S64x91 : Shape := ⟨2, ![64, 91]⟩
abbrev S1x64x90 : Shape := ⟨3, ![1, 64, 90]⟩
abbrev S64x90 : Shape := ⟨2, ![64, 90]⟩
abbrev S1x64x89 : Shape := ⟨3, ![1, 64, 89]⟩
abbrev S64x89 : Shape := ⟨2, ![64, 89]⟩
abbrev S1x64x88 : Shape := ⟨3, ![1, 64, 88]⟩
abbrev S64x88 : Shape := ⟨2, ![64, 88]⟩
abbrev S1x64x87 : Shape := ⟨3, ![1, 64, 87]⟩
abbrev S64x87 : Shape := ⟨2, ![64, 87]⟩
abbrev S1x64x86 : Shape := ⟨3, ![1, 64, 86]⟩
abbrev S64x86 : Shape := ⟨2, ![64, 86]⟩
abbrev S1x64x85 : Shape := ⟨3, ![1, 64, 85]⟩
abbrev S64x85 : Shape := ⟨2, ![64, 85]⟩
abbrev S1x64x84 : Shape := ⟨3, ![1, 64, 84]⟩
abbrev S64x84 : Shape := ⟨2, ![64, 84]⟩
abbrev S1x64x83 : Shape := ⟨3, ![1, 64, 83]⟩
abbrev S64x83 : Shape := ⟨2, ![64, 83]⟩
abbrev S1x64x82 : Shape := ⟨3, ![1, 64, 82]⟩
abbrev S64x82 : Shape := ⟨2, ![64, 82]⟩
abbrev S1x64x81 : Shape := ⟨3, ![1, 64, 81]⟩
abbrev S64x81 : Shape := ⟨2, ![64, 81]⟩
abbrev S1x64x80 : Shape := ⟨3, ![1, 64, 80]⟩
abbrev S64x80 : Shape := ⟨2, ![64, 80]⟩
abbrev S1x64x79 : Shape := ⟨3, ![1, 64, 79]⟩
abbrev S64x79 : Shape := ⟨2, ![64, 79]⟩
abbrev S1x64x78 : Shape := ⟨3, ![1, 64, 78]⟩
abbrev S64x78 : Shape := ⟨2, ![64, 78]⟩
abbrev S1x64x77 : Shape := ⟨3, ![1, 64, 77]⟩
abbrev S64x77 : Shape := ⟨2, ![64, 77]⟩
abbrev S1x64x76 : Shape := ⟨3, ![1, 64, 76]⟩
abbrev S64x76 : Shape := ⟨2, ![64, 76]⟩
abbrev S1x64x75 : Shape := ⟨3, ![1, 64, 75]⟩
abbrev S64x75 : Shape := ⟨2, ![64, 75]⟩
abbrev S1x64x74 : Shape := ⟨3, ![1, 64, 74]⟩
abbrev S64x74 : Shape := ⟨2, ![64, 74]⟩
abbrev S1x64x73 : Shape := ⟨3, ![1, 64, 73]⟩
abbrev S64x73 : Shape := ⟨2, ![64, 73]⟩
abbrev S1x64x72 : Shape := ⟨3, ![1, 64, 72]⟩
abbrev S64x72 : Shape := ⟨2, ![64, 72]⟩
abbrev S1x64x71 : Shape := ⟨3, ![1, 64, 71]⟩
abbrev S64x71 : Shape := ⟨2, ![64, 71]⟩
abbrev S1x64x70 : Shape := ⟨3, ![1, 64, 70]⟩
abbrev S64x70 : Shape := ⟨2, ![64, 70]⟩
abbrev S1x64x69 : Shape := ⟨3, ![1, 64, 69]⟩
abbrev S64x69 : Shape := ⟨2, ![64, 69]⟩
abbrev S1x64x68 : Shape := ⟨3, ![1, 64, 68]⟩
abbrev S64x68 : Shape := ⟨2, ![64, 68]⟩
abbrev S1x64x67 : Shape := ⟨3, ![1, 64, 67]⟩
abbrev S64x67 : Shape := ⟨2, ![64, 67]⟩
abbrev S1x64x66 : Shape := ⟨3, ![1, 64, 66]⟩
abbrev S64x66 : Shape := ⟨2, ![64, 66]⟩
abbrev S1x64x65 : Shape := ⟨3, ![1, 64, 65]⟩
abbrev S64x65 : Shape := ⟨2, ![64, 65]⟩
abbrev S1x64x64 : Shape := ⟨3, ![1, 64, 64]⟩
abbrev S64x64 : Shape := ⟨2, ![64, 64]⟩
abbrev S1x64x63 : Shape := ⟨3, ![1, 64, 63]⟩
abbrev S64x63 : Shape := ⟨2, ![64, 63]⟩
abbrev S1x64x62 : Shape := ⟨3, ![1, 64, 62]⟩
abbrev S64x62 : Shape := ⟨2, ![64, 62]⟩
abbrev S1x64x61 : Shape := ⟨3, ![1, 64, 61]⟩
abbrev S64x61 : Shape := ⟨2, ![64, 61]⟩
abbrev S1x64x60 : Shape := ⟨3, ![1, 64, 60]⟩
abbrev S64x60 : Shape := ⟨2, ![64, 60]⟩
abbrev S1x64x59 : Shape := ⟨3, ![1, 64, 59]⟩
abbrev S64x59 : Shape := ⟨2, ![64, 59]⟩
abbrev S1x64x58 : Shape := ⟨3, ![1, 64, 58]⟩
abbrev S64x58 : Shape := ⟨2, ![64, 58]⟩
abbrev S1x64x57 : Shape := ⟨3, ![1, 64, 57]⟩
abbrev S64x57 : Shape := ⟨2, ![64, 57]⟩
abbrev S1x64x56 : Shape := ⟨3, ![1, 64, 56]⟩
abbrev S64x56 : Shape := ⟨2, ![64, 56]⟩
abbrev S1x64x55 : Shape := ⟨3, ![1, 64, 55]⟩
abbrev S64x55 : Shape := ⟨2, ![64, 55]⟩
abbrev S1x64x54 : Shape := ⟨3, ![1, 64, 54]⟩
abbrev S64x54 : Shape := ⟨2, ![64, 54]⟩
abbrev S1x64x53 : Shape := ⟨3, ![1, 64, 53]⟩
abbrev S64x53 : Shape := ⟨2, ![64, 53]⟩
abbrev S1x64x52 : Shape := ⟨3, ![1, 64, 52]⟩
abbrev S64x52 : Shape := ⟨2, ![64, 52]⟩
abbrev S1x64x51 : Shape := ⟨3, ![1, 64, 51]⟩
abbrev S64x51 : Shape := ⟨2, ![64, 51]⟩
abbrev S1x64x50 : Shape := ⟨3, ![1, 64, 50]⟩
abbrev S64x50 : Shape := ⟨2, ![64, 50]⟩
abbrev S1x64x49 : Shape := ⟨3, ![1, 64, 49]⟩
abbrev S64x49 : Shape := ⟨2, ![64, 49]⟩
abbrev S1x64x48 : Shape := ⟨3, ![1, 64, 48]⟩
abbrev S64x48 : Shape := ⟨2, ![64, 48]⟩
abbrev S1x64x47 : Shape := ⟨3, ![1, 64, 47]⟩
abbrev S64x47 : Shape := ⟨2, ![64, 47]⟩
abbrev S1x64x46 : Shape := ⟨3, ![1, 64, 46]⟩
abbrev S64x46 : Shape := ⟨2, ![64, 46]⟩
abbrev S1x64x45 : Shape := ⟨3, ![1, 64, 45]⟩
abbrev S64x45 : Shape := ⟨2, ![64, 45]⟩
abbrev S1x64x44 : Shape := ⟨3, ![1, 64, 44]⟩
abbrev S64x44 : Shape := ⟨2, ![64, 44]⟩
abbrev S1x64x43 : Shape := ⟨3, ![1, 64, 43]⟩
abbrev S64x43 : Shape := ⟨2, ![64, 43]⟩
abbrev S1x64x42 : Shape := ⟨3, ![1, 64, 42]⟩
abbrev S64x42 : Shape := ⟨2, ![64, 42]⟩
abbrev S1x64x41 : Shape := ⟨3, ![1, 64, 41]⟩
abbrev S64x41 : Shape := ⟨2, ![64, 41]⟩
abbrev S1x64x40 : Shape := ⟨3, ![1, 64, 40]⟩
abbrev S64x40 : Shape := ⟨2, ![64, 40]⟩
abbrev S1x64x39 : Shape := ⟨3, ![1, 64, 39]⟩
abbrev S64x39 : Shape := ⟨2, ![64, 39]⟩
abbrev S1x64x38 : Shape := ⟨3, ![1, 64, 38]⟩
abbrev S64x38 : Shape := ⟨2, ![64, 38]⟩
abbrev S1x64x37 : Shape := ⟨3, ![1, 64, 37]⟩
abbrev S64x37 : Shape := ⟨2, ![64, 37]⟩
abbrev S1x64x36 : Shape := ⟨3, ![1, 64, 36]⟩
abbrev S64x36 : Shape := ⟨2, ![64, 36]⟩
abbrev S1x64x35 : Shape := ⟨3, ![1, 64, 35]⟩
abbrev S64x35 : Shape := ⟨2, ![64, 35]⟩
abbrev S1x64x34 : Shape := ⟨3, ![1, 64, 34]⟩
abbrev S64x34 : Shape := ⟨2, ![64, 34]⟩
abbrev S1x64x33 : Shape := ⟨3, ![1, 64, 33]⟩
abbrev S64x33 : Shape := ⟨2, ![64, 33]⟩
abbrev S1x64x32 : Shape := ⟨3, ![1, 64, 32]⟩
abbrev S64x32 : Shape := ⟨2, ![64, 32]⟩
abbrev S1x64x31 : Shape := ⟨3, ![1, 64, 31]⟩
abbrev S64x31 : Shape := ⟨2, ![64, 31]⟩
abbrev S1x64x30 : Shape := ⟨3, ![1, 64, 30]⟩
abbrev S64x30 : Shape := ⟨2, ![64, 30]⟩
abbrev S1x64x29 : Shape := ⟨3, ![1, 64, 29]⟩
abbrev S64x29 : Shape := ⟨2, ![64, 29]⟩
abbrev S1x64x28 : Shape := ⟨3, ![1, 64, 28]⟩
abbrev S64x28 : Shape := ⟨2, ![64, 28]⟩
abbrev S1x64x27 : Shape := ⟨3, ![1, 64, 27]⟩
abbrev S64x27 : Shape := ⟨2, ![64, 27]⟩
abbrev S1x64x26 : Shape := ⟨3, ![1, 64, 26]⟩
abbrev S64x26 : Shape := ⟨2, ![64, 26]⟩
abbrev S1x64x25 : Shape := ⟨3, ![1, 64, 25]⟩
abbrev S64x25 : Shape := ⟨2, ![64, 25]⟩
abbrev S1x64x24 : Shape := ⟨3, ![1, 64, 24]⟩
abbrev S64x24 : Shape := ⟨2, ![64, 24]⟩
abbrev S1x64x23 : Shape := ⟨3, ![1, 64, 23]⟩
abbrev S64x23 : Shape := ⟨2, ![64, 23]⟩
abbrev S1x64x22 : Shape := ⟨3, ![1, 64, 22]⟩
abbrev S64x22 : Shape := ⟨2, ![64, 22]⟩
abbrev S1x64x21 : Shape := ⟨3, ![1, 64, 21]⟩
abbrev S64x21 : Shape := ⟨2, ![64, 21]⟩
abbrev S1x64x20 : Shape := ⟨3, ![1, 64, 20]⟩
abbrev S64x20 : Shape := ⟨2, ![64, 20]⟩
abbrev S1x64x19 : Shape := ⟨3, ![1, 64, 19]⟩
abbrev S64x19 : Shape := ⟨2, ![64, 19]⟩
abbrev S1x64x18 : Shape := ⟨3, ![1, 64, 18]⟩
abbrev S64x18 : Shape := ⟨2, ![64, 18]⟩
abbrev S1x64x17 : Shape := ⟨3, ![1, 64, 17]⟩
abbrev S64x17 : Shape := ⟨2, ![64, 17]⟩
abbrev S1x64x16 : Shape := ⟨3, ![1, 64, 16]⟩
abbrev S64x16 : Shape := ⟨2, ![64, 16]⟩
abbrev S1x64x15 : Shape := ⟨3, ![1, 64, 15]⟩
abbrev S64x15 : Shape := ⟨2, ![64, 15]⟩
abbrev S1x64x14 : Shape := ⟨3, ![1, 64, 14]⟩
abbrev S64x14 : Shape := ⟨2, ![64, 14]⟩
abbrev S1x64x13 : Shape := ⟨3, ![1, 64, 13]⟩
abbrev S64x13 : Shape := ⟨2, ![64, 13]⟩
abbrev S1x64x12 : Shape := ⟨3, ![1, 64, 12]⟩
abbrev S64x12 : Shape := ⟨2, ![64, 12]⟩
abbrev S1x64x11 : Shape := ⟨3, ![1, 64, 11]⟩
abbrev S64x11 : Shape := ⟨2, ![64, 11]⟩
abbrev S1x64x10 : Shape := ⟨3, ![1, 64, 10]⟩
abbrev S64x10 : Shape := ⟨2, ![64, 10]⟩
abbrev S1x64x9 : Shape := ⟨3, ![1, 64, 9]⟩
abbrev S64x9 : Shape := ⟨2, ![64, 9]⟩
abbrev S1x64x8 : Shape := ⟨3, ![1, 64, 8]⟩
abbrev S64x8 : Shape := ⟨2, ![64, 8]⟩
abbrev S1x64x7 : Shape := ⟨3, ![1, 64, 7]⟩
abbrev S64x7 : Shape := ⟨2, ![64, 7]⟩
abbrev S1x64x6 : Shape := ⟨3, ![1, 64, 6]⟩
abbrev S64x6 : Shape := ⟨2, ![64, 6]⟩
abbrev S1x64x5 : Shape := ⟨3, ![1, 64, 5]⟩
abbrev S64x5 : Shape := ⟨2, ![64, 5]⟩
abbrev S1x64x4 : Shape := ⟨3, ![1, 64, 4]⟩
abbrev S64x4 : Shape := ⟨2, ![64, 4]⟩
abbrev S1x64x3 : Shape := ⟨3, ![1, 64, 3]⟩
abbrev S64x3 : Shape := ⟨2, ![64, 3]⟩
abbrev S1x64x2 : Shape := ⟨3, ![1, 64, 2]⟩
abbrev S64x2 : Shape := ⟨2, ![64, 2]⟩
abbrev S1x64x1 : Shape := ⟨3, ![1, 64, 1]⟩
abbrev S64x1 : Shape := ⟨2, ![64, 1]⟩

abbrev nBuf : Space → Nat
  | .hbm => 2
  | .vmem => 8
  | .smem => 0
  | _ => 0

abbrev bufTy : (tb : Table) → Fin (tcTables nBuf tb) → BufTy
  | .hbm, ⟨0, _⟩ => ⟨S1024x256x256, .f32⟩
  | .hbm, ⟨1, _⟩ => ⟨S1024x32896, .f32⟩
  | .local _ .vmem, ⟨0, _⟩ => ⟨S64x128x256, .f32⟩
  | .local _ .vmem, ⟨1, _⟩ => ⟨S64x128x256, .f32⟩
  | .local _ .vmem, ⟨2, _⟩ => ⟨S64x64x128, .f32⟩
  | .local _ .vmem, ⟨3, _⟩ => ⟨S64x64x128, .f32⟩
  | .local _ .vmem, ⟨4, _⟩ => ⟨S64x64x128, .f32⟩
  | .local _ .vmem, ⟨5, _⟩ => ⟨S64x64x128, .f32⟩
  | .local _ .vmem, ⟨6, _⟩ => ⟨S64x32896, .f32⟩
  | .local _ .vmem, ⟨7, _⟩ => ⟨S64x32896, .f32⟩
  | _, _ => ⟨S1024x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c2_i32 : BitVec 32 := 2#32
  let c1_i32 : BitVec 32 := 1#32
  let c0_i32 : BitVec 32 := 0#32
  ![arg0.toNat, c2_i32.toNat, c1_i32.toNat]

def cc0_transform_2 (i : grid0.Coords) : Fin 3 → Nat :=
  let arg0 : BitVec 32 := BitVec.ofNat 32 (i 0).val
  let c3_i32 : BitVec 32 := 3#32
  let c1_i32 : BitVec 32 := 1#32
  let c0_i32 : BitVec 32 := 0#32
  ![arg0.toNat, c3_i32.toNat, c1_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x64x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x32896 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S1024x256x256 : Shape := ⟨3, ![1024, 256, 256]⟩
abbrev S32896 : Shape := ⟨1, ![32896]⟩
abbrev S_ : Shape := ⟨0, ![]⟩
abbrev S32896x1 : Shape := ⟨2, ![32896, 1]⟩
abbrev S32896x2 : Shape := ⟨2, ![32896, 2]⟩
abbrev S1024x32896 : Shape := ⟨2, ![1024, 32896]⟩

abbrev nBuf : Space → Nat
  | .hbm => 21
  | .vmem => 0
  | .smem => 0
  | _ => 0

abbrev bufTy : (tb : Table) → Fin (tcTables nBuf tb) → BufTy
  | .hbm, ⟨0, _⟩ => ⟨S1024x256x256, .f32⟩
  | .hbm, ⟨1, _⟩ => ⟨S32896, .i32⟩
  | .hbm, ⟨2, _⟩ => ⟨S32896, .i32⟩
  | .hbm, ⟨3, _⟩ => ⟨S_, .i32⟩
  | .hbm, ⟨4, _⟩ => ⟨S32896, .i32⟩
  | .hbm, ⟨5, _⟩ => ⟨S32896, .i1⟩
  | .hbm, ⟨6, _⟩ => ⟨S_, .i32⟩
  | .hbm, ⟨7, _⟩ => ⟨S32896, .i32⟩
  | .hbm, ⟨8, _⟩ => ⟨S32896, .i32⟩
  | .hbm, ⟨9, _⟩ => ⟨S32896, .i32⟩
  | .hbm, ⟨10, _⟩ => ⟨S_, .i32⟩
  | .hbm, ⟨11, _⟩ => ⟨S32896, .i32⟩
  | .hbm, ⟨12, _⟩ => ⟨S32896, .i1⟩
  | .hbm, ⟨13, _⟩ => ⟨S_, .i32⟩
  | .hbm, ⟨14, _⟩ => ⟨S32896, .i32⟩
  | .hbm, ⟨15, _⟩ => ⟨S32896, .i32⟩
  | .hbm, ⟨16, _⟩ => ⟨S32896, .i32⟩
  | .hbm, ⟨17, _⟩ => ⟨S32896x1, .i32⟩
  | .hbm, ⟨18, _⟩ => ⟨S32896x1, .i32⟩
  | .hbm, ⟨19, _⟩ => ⟨S32896x2, .i32⟩
  | .hbm, ⟨20, _⟩ => ⟨S1024x32896, .f32⟩
  | _, _ => ⟨S1024x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_c_1 : Ref sig .tc := ⟨.hbm, 3, rfl⟩
abbrev main_v0 : Ref sig .tc := ⟨.hbm, 4, rfl⟩
abbrev main_v1 : Ref sig .tc := ⟨.hbm, 5, rfl⟩
abbrev main_c_2 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c_3 : Ref sig .tc := ⟨.hbm, 10, rfl⟩
abbrev main_v5 : Ref sig .tc := ⟨.hbm, 11, rfl⟩
abbrev main_v6 : Ref sig .tc := ⟨.hbm, 12, rfl⟩
abbrev main_c_4 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩

abbrev nD : Nat := 1
abbrev τ : Topo := Topo.v7x

variable {F : FTy → Type} [FloatOps F]
-- ==== Proof.Packed.lean ====
/-
  THE PACKED UPPER TRIANGLE, as a function of a batch of 256 × 256 matrices: row `i` contributes its entries from the
  diagonal on, 256 - i of them, and the rows follow one another. No program is mentioned here.
-/
module

public import Idealize.ShloMosaic.Lib.ValueLayout
public import Mathlib.Data.Nat.Find

@[expose] public section

namespace Cert.Packed

open Idealize.ShloMosaic Idealize.ShloMosaic.ValueIdx

/-- The position at which row `i` starts: the rows before it hold 256, 255, …, 257 - i entries. -/
def rowStart (i : ℕ) : ℕ := i * 256 - i * (i - 1) / 2

/-- Row `i` holds `256 - i` entries. -/
theorem rowStart_succ : ∀ i < 256, rowStart (i + 1) = rowStart i + (256 - i) := by decide +kernel

/-- A row ends where a later row starts, or before. -/
theorem rowStart_le (i : ℕ) : ∀ i' ≤ 256, i < i' → rowStart i + (256 - i) ≤ rowStart i'
  | 0, _, h => absurd h (Nat.not_lt_zero _)
  | n + 1, hn, h => by
    have hs := rowStart_succ n (by omega)
    rcases Nat.lt_succ_iff_lt_or_eq.mp h with h' | rfl
    · have := rowStart_le i n (by omega) h'; omega
    · omega

/-- Every row lies within the 32896 positions. -/
theorem rowStart_end {i : ℕ} (h : i < 256) : rowStart i + (256 - i) ≤ 32896 :=
  rowStart_le i 256 le_rfl h

/-- The row that position `k` belongs to: the last one that starts at `k` or before. -/
def rowOf (k : ℕ) : ℕ := Nat.findGreatest (fun i => rowStart i ≤ k) 255

theorem rowOf_lt (k : ℕ) : rowOf k < 256 := Nat.lt_succ_of_le (Nat.findGreatest_le _)

/-- Position `k` is at or past the start of its row. -/
theorem rowStart_rowOf (k : ℕ) : rowStart (rowOf k) ≤ k :=
  Nat.findGreatest_spec (P := fun i => rowStart i ≤ k) (Nat.zero_le 255) (Nat.zero_le k)

/-- A position among the 32896 is before the end of its row. -/
theorem lt_rowOf_end {k : ℕ} (hk : k < 32896) : k < rowStart (rowOf k) + (256 - rowOf k) := by
  by_contra h
  have hr := rowOf_lt k
  rw [← rowStart_succ _ hr] at h
  by_cases hl : rowOf k = 255
  · rw [hl] at h; exact h (by simpa [rowStart] using hk)
  · exact Nat.findGreatest_is_greatest (P := fun i => rowStart i ≤ k) (Nat.lt_add_one (rowOf k)) (by omega) (by omega)

/-- The `j`-th entry kept of row `i` belongs to row `i`. -/
theorem rowOf_rowStart {i j : ℕ} (h : i + j < 256) : rowOf (rowStart i + j) = i := by
  have hlo := rowStart_rowOf (rowStart i + j)
  have hr := rowOf_lt (rowStart i + j)
  have hi : i ≤ rowOf (rowStart i + j) :=
    Nat.le_findGreatest (P := fun i' => rowStart i' ≤ rowStart i + j) (by omega) (Nat.le_add_right _ _)
  by_contra hne
  have := rowStart_le i (rowOf (rowStart i + j)) (by omega) (by omega)
  omega

variable {α : Type} {n : ℕ}

/-- The batch `x` packed: position `k`, in row `i = rowOf k`, holds the entry of row `i` at column
    `i + (k - rowStart i)`. -/
def packed (x : (⟨3, ![n, 256, 256]⟩ : Shape).Idx → α) : (⟨2, ![n, 32896]⟩ : Shape).Idx → α := fun y =>
  x (ix3 (y 0) ⟨rowOf (y 1).val, rowOf_lt _⟩
    ⟨rowOf (y 1).val + ((y 1).val - rowStart (rowOf (y 1).val)), by
      have h1 := lt_rowOf_end (idx2_lt1 y)
      have h2 := rowStart_rowOf (y 1).val
      omega⟩)

/-- Packed, the `j`-th entry kept of row `i` is the entry at row `i`, column `i + j`. -/
theorem packed_apply (x : (⟨3, ![n, 256, 256]⟩ : Shape).Idx → α) (b : Fin n) {i j : ℕ} (h : i + j < 256)
    (k : Fin 32896) (hk : k.val = rowStart i + j) :
    packed x (ix2 b k) = x (ix3 b ⟨i, by omega⟩ ⟨i + j, h⟩) := by
  have hr : rowOf k.val = i := by rw [hk, rowOf_rowStart h]
  refine congrArg x (funext fun a => ?_)
  match a with
  | ⟨0, _⟩ => rfl
  | ⟨1, _⟩ => exact Fin.ext hr
  | ⟨2, _⟩ => exact Fin.ext (by show rowOf k.val + (k.val - rowStart (rowOf k.val)) = i + j; rw [hr, hk]; omega)

/-- Every one of the 32896 positions is the `j`-th entry kept of some row `i`. -/
theorem exists_entry {k : ℕ} (hk : k < 32896) : ∃ i j, i + j < 256 ∧ k = rowStart i + j :=
  ⟨rowOf k, k - rowStart (rowOf k), by have := lt_rowOf_end hk; have := rowStart_rowOf k; omega,
    by have := rowStart_rowOf k; omega⟩

end Cert.Packed
-- ==== Proof.Rows.lean ====
/-
  THE STORES OF ONE BLOCK. Each of the 256 rows of a block is stored by one rectangle: from eight rows of a staged
  window, transposed so that the row comes first, the row is cut out from the diagonal on. Here the 256 stores are one
  function of the row, and each is shown to hold its part of the packed block.
-/
module

public import proofs.«01_k».proof.Proof.Packed
public import Idealize.ShloMosaic.Lib.Writes

@[expose] public section

namespace Cert.Packed

open Idealize.ShloMosaic Idealize.ShloMosaic.ValueIdx

variable {α : Type}

/-- Rank-3 indices agree when their coordinates do. -/
theorem ix3_eq {n0 n1 n2 : ℕ} (b : Fin n0) {i i' : Fin n1} {j j' : Fin n2} (hi : i.val = i'.val) (hj : j.val = j'.val) :
    ix3 b i j = ix3 b i' j' := by rw [Fin.ext hi, Fin.ext hj]

/-- Eight rows of a staged window fit it when the last does. -/
theorem inb_rows {R C r : ℕ} (hr : r + 8 ≤ R) :
    ∀ a, (![0, r, 0] : Fin 3 → ℕ) a + (![64, 8, C] : Fin 3 → ℕ) a ≤ (⟨3, ![64, R, C]⟩ : Shape).size a := fun a =>
  match a with
  | ⟨0, _⟩ => by show 0 + 64 ≤ 64; omega
  | ⟨1, _⟩ => hr
  | ⟨2, _⟩ => by show 0 + C ≤ C; omega

/-- `m` entries of row `s` of eight, from column `c` on, lie within the rows. -/
theorem slices_row {C s c m : ℕ} (hs : s < 8) (hc : c + m ≤ C) :
    (⟨3, ![8, 64, C]⟩ : Shape).Slices ![s, 0, c] ⟨3, ![1, 64, m]⟩ :=
  ⟨rfl, fun a => match a with
    | ⟨0, _⟩ => by show s + 1 ≤ 8; omega
    | ⟨1, _⟩ => by show 0 + 64 ≤ 64; omega
    | ⟨2, _⟩ => hc⟩

theorem transposes_rows {C : ℕ} : (⟨3, ![64, 8, C]⟩ : Shape).Transposes [1, 0, 2] ⟨3, ![8, 64, C]⟩ := by
  refine ⟨(by decide : [1, 0, 2].Perm (List.finRange 3)), rfl, fun b => ?_⟩
  match b with
  | ⟨0, _⟩ => rfl
  | ⟨1, _⟩ => rfl
  | ⟨2, _⟩ => rfl

theorem casts_row {m : ℕ} : (⟨3, ![1, 64, m]⟩ : Shape).ShapeCasts ⟨2, ![64, m]⟩ := by
  simp [Shape.ShapeCasts, Shape.numel, Fin.prod_univ_succ]

/-- Row `r + s` of the staged window `x`, `m` entries from column `c` on, for each of the block's 64 matrices: eight rows
    from `r` on are read, their first two axes exchanged, the row cut out and its unit axis dropped. -/
def rowCut {R C : ℕ} (x : (⟨3, ![64, R, C]⟩ : Shape).Idx → α) (r s c m : ℕ) (hr : r + 8 ≤ R) (hs : s < 8) (hc : c + m ≤ C) :
    (⟨2, ![64, m]⟩ : Shape).Idx → α :=
  shapeCast ⟨2, ![64, m]⟩
    (extractStridedSlice ⟨3, ![1, 64, m]⟩ ![s, 0, c]
      (transpose ⟨3, ![8, 64, C]⟩ [1, 0, 2] (fun k => x ((Rect.unit ![0, r, 0] ![64, 8, C] (inb_rows hr)).emb k)) transposes_rows)
      (slices_row hs hc)) casts_row

/-- The row cut out, read at matrix `b` and entry `j`. -/
theorem rowCut_apply {R C : ℕ} (x : (⟨3, ![64, R, C]⟩ : Shape).Idx → α) (r s c m : ℕ) (hr : r + 8 ≤ R) (hs : s < 8)
    (hc : c + m ≤ C) (b : Fin 64) (j : Fin m) (i' : Fin R) (j' : Fin C) (hi : i'.val = r + s) (hj : j'.val = c + j.val) :
    rowCut x r s c m hr hs hc (ix2 b j) = x (ix3 b i' j') := by
  unfold rowCut
  rw [shapeCast_1ab_ab_apply,
    extractStridedSlice_apply _ _ _ _ (ix3 (⟨s, hs⟩ : Fin 8) b (⟨c + j.val, by omega⟩ : Fin C)) (fun a => by
      match a with
      | ⟨0, _⟩ => rfl
      | ⟨1, _⟩ => exact (Nat.zero_add _).symm
      | ⟨2, _⟩ => rfl),
    transpose_apply _ _ _ _ (ix3 b (⟨s, hs⟩ : Fin 8) (⟨c + j.val, by omega⟩ : Fin C)) (fun a => by
      match a with
      | ⟨0, _⟩ => rfl
      | ⟨1, _⟩ => rfl
      | ⟨2, _⟩ => rfl)]
  refine congrArg x (funext fun a => Fin.ext ?_)
  match a with
  | ⟨0, _⟩ => show 0 + 1 * b.val = b.val; omega
  | ⟨1, _⟩ => show r + 1 * s = i'.val; omega
  | ⟨2, _⟩ => show 0 + 1 * (c + j.val) = j'.val; omega

variable {Val : EltTy → Type} {e : EltTy}
  (xa : (⟨3, ![64, 128, 256]⟩ : Shape).Idx → Val e) (xc xd : (⟨3, ![64, 64, 128]⟩ : Shape).Idx → Val e)

/-- The positions of row `i` lie within the packed block. -/
theorem inb_store {i : ℕ} (h : i < 256) :
    ∀ a, (![0, rowStart i] : Fin 2 → ℕ) a + (![64, 256 - i] : Fin 2 → ℕ) a ≤ (⟨2, ![64, 32896]⟩ : Shape).size a := fun a =>
  match a with
  | ⟨0, _⟩ => by show 0 + 64 ≤ 64; omega
  | ⟨1, _⟩ => rowStart_end h

/-- The store of row `i`. Rows 0–127 come whole from the window `xa`; rows 128–191 from `xc` and 192–255 from `xd`, both of
    which start at column 128. -/
def rowStore (i : ℕ) (h : i < 256) : View.Piece Val ⟨2, ![64, 32896]⟩ e :=
  ⟨Rect.unit ![0, rowStart i] ![64, 256 - i] (inb_store h),
    if h1 : i < 128 then
      rowCut xa (8 * (i / 8)) (i % 8) i (256 - i) (by omega) (by omega) (by omega)
    else if h2 : i < 192 then
      rowCut xc (8 * (i / 8) - 128) (i % 8) (i - 128) (256 - i) (by omega) (by omega) (by omega)
    else
      rowCut xd (8 * (i / 8) - 192) (i % 8) (i - 128) (256 - i) (by omega) (by omega) (by omega)⟩

/-- The stores of the first `n` rows, the last one first. -/
def rowStores : (n : ℕ) → n ≤ 256 → List (View.Piece Val ⟨2, ![64, 32896]⟩ e)
  | 0, _ => []
  | n + 1, h => rowStore xa xc xd n h :: rowStores n (Nat.le_of_succ_le h)

/-- Each of these stores is the store of some row. -/
theorem exists_of_mem_rowStores : ∀ (n : ℕ) (h : n ≤ 256), ∀ p ∈ rowStores xa xc xd n h,
    ∃ i, ∃ hi : i < 256, p = rowStore xa xc xd i hi
  | 0, _, p, hp => absurd hp List.not_mem_nil
  | n + 1, h, p, hp => by
    rcases List.mem_cons.mp hp with rfl | hp
    · exact ⟨n, h, rfl⟩
    · exact exists_of_mem_rowStores n _ p hp

/-- The three windows hold these parts of a block `X` of 64 matrices: `xa` the rows 0–127, `xc` the rows 128–191 and `xd`
    the rows 192–255, both from column 128 on. -/
structure Staged (X : (⟨3, ![64, 256, 256]⟩ : Shape).Idx → Val e) : Prop where
  a : ∀ (b : Fin 64) (i : Fin 128) (j : Fin 256), xa (ix3 b i j) = X (ix3 b ⟨i.val, by omega⟩ j)
  c : ∀ (b : Fin 64) (i : Fin 64) (j : Fin 128), xc (ix3 b i j) = X (ix3 b ⟨128 + i.val, by omega⟩ ⟨128 + j.val, by omega⟩)
  d : ∀ (b : Fin 64) (i : Fin 64) (j : Fin 128), xd (ix3 b i j) = X (ix3 b ⟨192 + i.val, by omega⟩ ⟨128 + j.val, by omega⟩)

variable {xa xc xd} {X : (⟨3, ![64, 256, 256]⟩ : Shape).Idx → Val e}

/-- What row `i`'s store writes for matrix `b` and entry `j` is the block's entry at row `i`, column `i + j`. -/
theorem rowStore_apply (hX : Staged xa xc xd X) (i : ℕ) (h : i < 256) (b : Fin 64) (j : Fin (256 - i)) :
    (rowStore xa xc xd i h).2 (ix2 b j) = X (ix3 b ⟨i, h⟩ ⟨i + j.val, by omega⟩) := by
  have hm : 8 * (i / 8) + i % 8 = i := Nat.div_add_mod i 8
  unfold rowStore
  dsimp only
  split_ifs with h1 h2
  · rw [rowCut_apply xa _ _ _ _ _ _ _ b j ⟨i, h1⟩ ⟨i + j.val, by omega⟩ hm.symm rfl, hX.a]
  · rw [rowCut_apply xc _ _ _ _ _ _ _ b j ⟨i - 128, by omega⟩ ⟨i - 128 + j.val, by omega⟩ (by show i - 128 = _; omega) rfl, hX.c]
    exact congrArg X (ix3_eq b (by show _ + (i - _) = i; omega) (by show 128 + (i - 128 + j.val) = i + j.val; omega))
  · rw [rowCut_apply xd _ _ _ _ _ _ _ b j ⟨i - 192, by omega⟩ ⟨i - 128 + j.val, by omega⟩ (by show i - 192 = _; omega) rfl, hX.d]
    exact congrArg X (ix3_eq b (by show _ + (i - _) = i; omega) (by show 128 + (i - 128 + j.val) = i + j.val; omega))

/-- So every store writes its part of the packed block. -/
theorem rowStores_packed (hX : Staged xa xc xd X) : ∀ p ∈ rowStores xa xc xd 256 le_rfl, ∀ y, p.2 y = packed X (p.1.emb y) := by
  intro p hp
  obtain ⟨i, h, rfl⟩ := exists_of_mem_rowStores xa xc xd 256 le_rfl p hp
  intro (y : (⟨2, ![64, 256 - i]⟩ : Shape).Idx)
  rw [eq_ix2 y]
  refine (rowStore_apply hX i h (y 0) (y 1)).trans ?_
  have hj : i + (y 1).val < 256 := by have := idx2_lt1 y; omega
  have hk : rowStart i + (y 1).val < 32896 := by have := rowStart_end h; omega
  rw [← packed_apply X (y 0) hj ⟨_, hk⟩ rfl]
  refine congrArg (packed X) (funext fun a => Fin.ext ?_)
  match a with
  | ⟨0, _⟩ => show (y 0).val = 0 + 1 * (y 0).val; omega
  | ⟨1, _⟩ => show rowStart i + (y 1).val = rowStart i + 1 * (y 1).val; omega

/-- The store of row `i` is among the stores of the first `n` rows, for `i < n`. -/
theorem mem_rowStores (xa : (⟨3, ![64, 128, 256]⟩ : Shape).Idx → Val e) (xc xd : (⟨3, ![64, 64, 128]⟩ : Shape).Idx → Val e)
    {i : ℕ} : ∀ {n : ℕ} (h : n ≤ 256) (hi : i < n), rowStore xa xc xd i (Nat.lt_of_lt_of_le hi h) ∈ rowStores xa xc xd n h
  | 0, _, hi => absurd hi (Nat.not_lt_zero _)
  | n + 1, h, hi => by
    rcases Nat.lt_succ_iff_lt_or_eq.mp hi with hi' | rfl
    · exact List.mem_cons_of_mem _ (mem_rowStores xa xc xd _ hi')
    · exact List.mem_cons_self

/-- The 256 stores cover the block: every position belongs to some row. -/
theorem rowStores_cover (xa : (⟨3, ![64, 128, 256]⟩ : Shape).Idx → Val e) (xc xd : (⟨3, ![64, 64, 128]⟩ : Shape).Idx → Val e)
    (y : (⟨2, ![64, 32896]⟩ : Shape).Idx) : ∃ p ∈ rowStores xa xc xd 256 le_rfl, y ∈ p.1.set := by
  obtain ⟨i, j, hij, hk⟩ := exists_entry (idx2_lt1 y)
  have h0 := idx2_lt0 y
  refine ⟨_, mem_rowStores xa xc xd le_rfl (i := i) (by omega), ?_⟩
  unfold rowStore
  rw [Rect.mem_set_unit]
  intro a
  match a with
  | ⟨0, _⟩ => exact ⟨Nat.zero_le _, by show (y 0).val < 0 + 64; omega⟩
  | ⟨1, _⟩ => exact ⟨by show rowStart i ≤ (y 1).val; omega, by show (y 1).val < rowStart i + (256 - i); omega⟩

/-- Written by the 256 stores, a buffer reads as the packed block, whatever it held before. -/
theorem read_rowStores {sig : RefSig} {κ : Kind} {sp : Space} (v : View sig κ sp ⟨2, ![64, 32896]⟩ e) (f : v.ty.Contents Val)
    (hX : Staged xa xc xd X) : v.read Val (v.writes Val f (rowStores xa xc xd 256 le_rfl)) = packed X :=
  funext fun y => View.read_writes_apply_of_pieces v f (packed X) _ (rowStores_packed hX) y (rowStores_cover xa xc xd y)

/-! ## The batch cut into blocks of 64 -/

/-- The `t`-th block of 64 matrices of the batch of 1024. -/
def block (x : (⟨3, ![1024, 256, 256]⟩ : Shape).Idx → α) (t : ℕ) (ht : t < 16) : (⟨3, ![64, 256, 256]⟩ : Shape).Idx → α := fun k =>
  x (ix3 ⟨t * 64 + (k 0).val, by have : (k 0).val < 64 := (k 0).isLt; omega⟩ (k 1) (k 2))

/-- The packed block is the block of the packed batch. -/
theorem packed_block (x : (⟨3, ![1024, 256, 256]⟩ : Shape).Idx → α) (t : ℕ) (ht : t < 16) (b : Fin 64) (k : Fin 32896)
    (b' : Fin 1024) (hb : b'.val = t * 64 + b.val) : packed (block x t ht) (ix2 b k) = packed x (ix2 b' k) := by
  rw [show b' = ⟨t * 64 + b.val, hb ▸ b'.isLt⟩ from Fin.ext hb]
  rfl

end Cert.Packed
-- ==== Proof.RunKernelIdeal.lean ====
/-
  THE KERNEL'S RUN, in its ideal form: at every grid point the body leaves the output window at the packed block of 64
  matrices, so the result array ends at the packed batch. Everything holds at any values `F`.
-/
module

public import proofs.«01_k».proof.Proof.Gen.KernelIdeal.Frame.RunA
public import proofs.«01_k».proof.Proof.Rows
public import Idealize.ShloMosaic.Lib.Claim

@[expose] public section

noncomputable section

namespace Cert.KernelIdeal.Pack

open Cert.KernelIdeal Cert.KernelIdeal.Gen Cert.Packed
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## One point -/

/-- The argument array of core `c`, as launched. -/
abbrev arg (c : Dev nD) : S1024x256x256.Idx → Elt F .f32 := m ((c : Thread nD τ).loc main_arg0)

theorem point_lt (t : Fin cfg0.N) : t.val < 16 := t.isLt

/-- What the output window holds after point `t`: the packed `t`-th block. -/
abbrev outAt (c : Dev nD) (t : Fin cfg0.N) : Vec F S64x32896 .f32 := packed (block (arg m c) t.val (point_lt t))

/-- Where the windows' blocks start at point `t`: all at matrix `64 t`; the first at row 0 and column 0, the second at row
    128 and column 128, the third at row 192 and column 128, the output's at column 0 (decided over the 16 points). -/
theorem starts : ∀ t : Fin grid0.N,
    (win0_0.index t 0 = t.val ∧ win0_0.index t 1 = 0 ∧ win0_0.index t 2 = 0)
    ∧ (win0_1.index t 0 = t.val ∧ win0_1.index t 1 = 2 ∧ win0_1.index t 2 = 1)
    ∧ (win0_2.index t 0 = t.val ∧ win0_2.index t 1 = 3 ∧ win0_2.index t 2 = 1)
    ∧ (win0_3.index t 0 = t.val ∧ win0_3.index t 1 = 0) := by decide +kernel

/-- The three input windows hold, at point `t`, their parts of the `t`-th block. -/
theorem staged (c : Dev nD) (t : Fin cfg0.N) :
    Staged (Val := Elt F) (e := .f32) (iblk m c 0 t) (iblk m c 1 t) (iblk m c 2 t) (block (arg m c) t.val (point_lt t)) := by
  obtain ⟨⟨a0, a1, a2⟩, ⟨c0, c1, c2⟩, ⟨d0, d1, d2⟩, -⟩ := starts t
  refine ⟨fun b i j => ?_, fun b i j => ?_, fun b i j => ?_⟩
  · refine congrArg (arg m c) (funext fun a => Fin.ext ?_)
    match a with
    | ⟨0, _⟩ => show win0_0.index t 0 * 64 + 1 * b.val = t.val * 64 + b.val; rw [a0]; omega
    | ⟨1, _⟩ => show win0_0.index t 1 * 128 + 1 * i.val = i.val; rw [a1]; omega
    | ⟨2, _⟩ => show win0_0.index t 2 * 256 + 1 * j.val = j.val; rw [a2]; omega
  · refine congrArg (arg m c) (funext fun a => Fin.ext ?_)
    match a with
    | ⟨0, _⟩ => show win0_1.index t 0 * 64 + 1 * b.val = t.val * 64 + b.val; rw [c0]; omega
    | ⟨1, _⟩ => show win0_1.index t 1 * 64 + 1 * i.val = 128 + i.val; rw [c1]; omega
    | ⟨2, _⟩ => show win0_1.index t 2 * 128 + 1 * j.val = 128 + j.val; rw [c2]; omega
  · refine congrArg (arg m c) (funext fun a => Fin.ext ?_)
    match a with
    | ⟨0, _⟩ => show win0_2.index t 0 * 64 + 1 * b.val = t.val * 64 + b.val; rw [d0]; omega
    | ⟨1, _⟩ => show win0_2.index t 1 * 64 + 1 * i.val = 192 + i.val; rw [d1]; omega
    | ⟨2, _⟩ => show win0_2.index t 2 * 128 + 1 * j.val = 128 + j.val; rw [d2]; omega

/-- The body's stores are the 256 row stores, out of what its input memrefs hold. -/
theorem stores_eq (c : Dev nD) (i : grid0.Coords) (arg1 : Memref sig .tc .vmem S64x128x256 .f32) (harg1 : arg1.IsWhole)
    (arg2 : Memref sig .tc .vmem S64x64x128 .f32) (harg2 : arg2.IsWhole) (arg3 : Memref sig .tc .vmem S64x64x128 .f32)
    (harg3 : arg3.IsWhole) (arg4 : Memref sig .tc .vmem S64x32896 .f32) (harg4 : arg4.IsWhole)
    (x0 : Vec F S64x128x256 .f32) (x1 x2 : Vec F S64x64x128 .f32) :
    (kernelRun0_A c i arg1 harg1 arg2 harg2 arg3 harg3 arg4 harg4 x0 x1 x2).1 = rowStores x0 x1 x2 256 le_rfl := by
  have h : (kernelRun0_A c i arg1 harg1 arg2 harg2 arg3 harg3 arg4 harg4 x0 x1 x2).1
      = rowStores (arg1.view.read (Elt F) (harg1.unread x0)) (arg2.view.read (Elt F) (harg2.unread x1))
          (arg3.view.read (Elt F) (harg3.unread x2)) 256 le_rfl := by sl_kernel_rfl
  rw [h, harg1.read_unread, harg2.read_unread, harg3.read_unread]

/-! ## The proof data of the one pipeline -/

/-- On core `c`: the arrays as launched; after the body at a point the inputs' buffers at their blocks and the output's at
    the packed block; nothing owed; the one argument's share dealt among the three windows that stage it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t
  Φ _ := Pipeline.ΦA spec0 c
  q w := Pipeline.shareOf spec0 w
  owed _ := 0

theorem dats_A (c : Dev nD) (w : Fin cfg0.W) : (dats m 0 c).A w = V m c (Pipeline.arrRef spec0 w) := rfl

/-- Each input's buffer holds its block when the body starts. -/
theorem before_0 (c : Dev nD) (t : Fin cfg0.N) (d) : (dats m 0 c).before 0 t d = iblk m c 0 t :=
  before0_0_of m (dats m 0 c) (dats_A m c 0) (fun _ => rfl) t d
theorem before_1 (c : Dev nD) (t : Fin cfg0.N) (d) : (dats m 0 c).before 1 t d = iblk m c 1 t :=
  before0_1_of m (dats m 0 c) (dats_A m c 1) (fun _ => rfl) t d
theorem before_2 (c : Dev nD) (t : Fin cfg0.N) (d) : (dats m 0 c).before 2 t d = iblk m c 2 t :=
  before0_2_of m (dats m 0 c) (dats_A m c 2) (fun _ => rfl) t d

/-- What the body is given at point `t`, window by window, -/
def pre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it hands back. -/
def post (c : Dev nD) (t : Fin cfg0.N) : sProp 𝕄 :=
  iprop((dats m 0 c).Φ t.succ ∗ (dats m 0 c).owesAt () t.succ
    ∗ owns (c : Thread nD τ) (ms0_0 t) fullShare (iblk m c 0 t)
    ∗ owns (c : Thread nD τ) (ms0_1 t) fullShare (iblk m c 1 t)
    ∗ owns (c : Thread nD τ) (ms0_2 t) fullShare (iblk m c 2 t)
    ∗ owns (c : Thread nD τ) (ms0_3 t) fullShare (outAt m c t))

/-- The body at point `t` leaves the output window at the packed block, the input windows as they were. -/
theorem body_at (c : Dev nD) (t : Fin cfg0.N) :
    pre m c t ⊢ wp frame (wpE (defs₀ (F := F)) Variants.none c none) Set.univ (bodyAt0 t) (fun _ => post m c t) := by
  unfold pre post bodyAt0
  simp only [before_0, before_1, before_2]
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩⟩
  iapply ((kernelRun0_A c (grid0.coords t) _ _ _ _ _ _ _ _ (iblk m c 0 t) (iblk m c 1 t) (iblk m c 2 t)).2 Set.univ _)
  isplitl [H0]; · iexact H0
  isplitl [H1]; · iexact H1
  isplitl [H2]; · iexact H2
  isplitl [H3]; · iexists _; iexact H3
  iintro ⟨H0, H1, H2, ⟨%e3, H3⟩⟩
  isplitl [HΦ]; · iexact HΦ
  isplitl [Ho]; · iexact Ho
  isplitl [H0]; · iexact H0
  isplitl [H1]; · iexact H1
  isplitl [H2]; · iexact H2
  unfold owns; iexists _; isplitr
  swap; · iexact H3
  ipureintro
  rw [stores_eq]
  exact read_rowStores _ _ (staged m c t)

/-- The body table's row at point `t` is the body on that point's staging buffers. -/
theorem row_eq (t : Fin cfg0.N) : defs₀ (F := F) .tc cfg0.body (cfg0.bodyArgs t (cfg0.slots t)) = bodyAt0 t := by
  unfold defs₀; rw [Defs.onTc_tc]

/-- The body meets the pipeline's obligation at every point. -/
theorem obligation (c : Dev nD) : BodyObligation (dats (F := F) m 0 c) (defs₀ (F := F)) Variants.none () Set.univ := fun t => by
  rw [bigSep_W0, bigSep_W0, row_eq]
  exact triple_restated (body_at m c t) rfl .rfl fun _ => .rfl

/-! ## The whole run -/

set_option backward.isDefEq.respectTransparency.types false in
/-- From any memory with zero counters the program ends with every array as the proof data says and every counter at zero. -/
theorem run_all : θ_run defs (onTc (τ := τ) (main (F := F))) (s₀ m ρ)
    (fun r => Pipeline.FramePost cfgs (dats m) 0 (V m) r ∧ r.2.sem = fun _ => 0) :=
  Pipeline.θ_run_frame_shared (Q' := _) cfgs (dats m) (0 : Fin 1) launch₀0 defs₀ Variants.none m ρ main
    (hbody := fun c => (obligation m c).loose) (hq := fun _ _ _ => rfl)
    (howed := fun _ _ => rfl) (V := V m) (hmain := hmain m Variants.none) (hA := dats_A m) (hΦ := fun _ _ => rfl)

/-- The argument ends as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  θ_run_and (frame_of m ρ (dats m) (dats_A m) ((θ_run defs _ _).mono (fun _ h => h.1) (run_all m ρ)))
    ((θ_run defs _ _).mono (fun _ h => h.2) (run_all m ρ))

/-! ## The result array -/

/-- An index of the result array is in point `t`'s block when its matrix is one of the 64 from `64 t` on. -/
theorem mem_block (t : Fin cfg0.N) (y : S1024x32896.Idx) (h : t.val * 64 ≤ (y 0).val ∧ (y 0).val < t.val * 64 + 64) :
    y ∈ ((cfg0.win 3).blk t).view.set := by
  obtain ⟨-, -, -, e0, e1⟩ := starts t
  have h1 : (y 1).val < 32896 := (y 1).isLt
  show y ∈ ((View.whole main_v0).slice (win0_3.rect t)).set
  rw [View.set_slice_whole, Rect.mem_set_unit]
  intro a
  match a with
  | ⟨0, _⟩ => show win0_3.index t 0 * 64 ≤ (y 0).val ∧ (y 0).val < win0_3.index t 0 * 64 + 64; rw [e0]; exact h
  | ⟨1, _⟩ => show win0_3.index t 1 * 32896 ≤ (y 1).val ∧ (y 1).val < win0_3.index t 1 * 32896 + 32896
              rw [e1, Nat.zero_mul, Nat.zero_add]; exact ⟨Nat.zero_le _, h1⟩

/-- Every index of the result array is in some point's block, which is written back. -/
theorem blocks_cover (y : S1024x32896.Idx) : ∃ t : Fin cfg0.N, (cfg0.win 3).flush t = true ∧ y ∈ ((cfg0.win 3).blk t).view.set := by
  have h0 : (y 0).val < 1024 := (y 0).isLt
  refine ⟨⟨(y 0).val / 64, (by omega : (y 0).val / 64 < 16)⟩, flush0_3 _, mem_block _ y ?_⟩
  dsimp only
  omega

/-- What point `t` writes back is its block of the packed batch. -/
theorem written (c : Dev nD) (t : Fin cfg0.N) :
    (dats m 0 c).flushed 3 t = ((cfg0.win 3).blk t).view.read (Elt F) (packed (arg m c)) := by
  obtain ⟨-, -, -, e0, e1⟩ := starts t
  refine funext fun (y : S64x32896.Idx) => ?_
  have h0 : (y 0).val < 64 := (y 0).isLt
  have ht := point_lt t
  show packed (block (arg m c) t.val (point_lt t)) y = packed (arg m c) ((win0_3.rect t).emb y)
  rw [eq_ix2 y]
  refine (packed_block (arg m c) t.val (point_lt t) (y 0) (y 1) ⟨t.val * 64 + (y 0).val, by omega⟩ rfl).trans ?_
  refine congrArg (packed (arg m c)) (funext fun a => Fin.ext ?_)
  match a with
  | ⟨0, _⟩ => show t.val * 64 + (y 0).val = win0_3.index t 0 * 64 + 1 * (y 0).val; rw [e0]; omega
  | ⟨1, _⟩ => show (y 1).val = win0_3.index t 1 * 32896 + 1 * (y 1).val; rw [e1]; omega

/-- The program ends with the result array at the packed argument, the argument as launched. -/
theorem run : θ_run defs (onTc (τ := τ) (main (F := F))) ⟨m, fun _ => 0, ρ⟩ fun r => ∀ c : Dev nD,
      r.2.mem ((c : Thread nD τ).loc main_v0) = packed (arg m c)
      ∧ r.2.mem ((c : Thread nD τ).loc main_arg0) = m ((c : Thread nD τ).loc main_arg0) :=
  (θ_run defs _ _).mono (fun _ h c => ⟨(h.1 c).1 3 |>.trans
      ((dats m 0 c).arrAt_eq_of_cover 3 (packed (arg m c)) (fun t _ => written m c t) blocks_cover),
      ((h.1 c).1 2).trans (((dats m 0 c).arrAt_in 2 rfl _).trans (dats_A m c 2))⟩)
    (run_all m ρ)

end Cert.KernelIdeal.Pack

end
-- ==== Proof.RunKernel.lean ====
/-
  THE KERNEL'S RUN, in its own form. The ideal pass changed nothing, so the two printed programs are the same text, and
  what is stated of the one at any values is, name by name unfolded, stated of the other.
-/
module

public import proofs.«01_k».proof.Proof.Gen.Kernel
public import proofs.«01_k».proof.Proof.RunKernelIdeal

@[expose] public section

noncomputable section

namespace Cert.Same

open Idealize.ShloMosaic Idealize.ShloMosaic.TcCoe Idealize.ShloMosaic.Tactic Idealize.SL.Sem

variable {F : FTy → Type} [FloatOps F]

open Cert.Kernel in
/-- The frame of the kernel, as a statement. -/
def Frame (F : FTy → Type) [FloatOps F] : Prop :=
  ∀ (m : (ℓ : Loc nD τ sig) → Buf (Elt F) ℓ) (ρ : Dev nD → PrngReg),
    θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0)

open Cert.KernelIdeal in
/-- The same of its ideal form. -/
def FrameIdeal (F : FTy → Type) [FloatOps F] : Prop :=
  ∀ (m : (ℓ : Loc nD τ sig) → Buf (Elt F) ℓ) (ρ : Dev nD → PrngReg),
    θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0)

theorem frame_eq : Frame F = FrameIdeal F := by sl_kernel_rfl

/-- The argument ends as launched and every counter at zero. -/
theorem frame : Frame F := frame_eq.mpr fun m ρ => Cert.KernelIdeal.Pack.frame m ρ

end Cert.Same

end
-- ==== Proof.Table.lean ====
/-
  THE REFERENCE'S TABLES. The reference names, for every packed position, the row and the column it holds, in two constant
  tables of 32896 words. Here both are checked against the rows' starts by evaluation, entry by entry.
-/
module

public import proofs.«01_k».proof.Proof.Packed
public import proofs.«01_k».proof.ReferenceIdeal
public import Idealize.ShloMosaic.Lib.Tactic

@[expose] public section

namespace Cert.Packed

/-- The tables `f` and `g` hold row `i` and column `i + j` at the first `n` positions of row `i`. -/
def rowHolds (f g : ℕ → BitVec 32) (i : ℕ) : ℕ → Bool
  | 0 => true
  | j + 1 => f (rowStart i + j) == BitVec.ofNat 32 i && g (rowStart i + j) == BitVec.ofNat 32 (i + j) && rowHolds f g i j

/-- They do at every position of the `n` rows from `i` on. -/
def rowsHold (f g : ℕ → BitVec 32) (i : ℕ) : ℕ → Bool
  | 0 => true
  | n + 1 => rowHolds f g (i + n) (256 - (i + n)) && rowsHold f g i n

theorem of_rowHolds {f g : ℕ → BitVec 32} {i : ℕ} : ∀ {n : ℕ}, rowHolds f g i n = true → ∀ j < n,
    f (rowStart i + j) = BitVec.ofNat 32 i ∧ g (rowStart i + j) = BitVec.ofNat 32 (i + j)
  | 0, _, _, h => absurd h (Nat.not_lt_zero _)
  | n + 1, hn, j, h => by
    simp only [rowHolds, Bool.and_eq_true, beq_iff_eq] at hn
    rcases Nat.lt_succ_iff_lt_or_eq.mp h with h | rfl
    · exact of_rowHolds hn.2 j h
    · exact hn.1

/-- From the check of rows `i` to `i + n - 1`, the check of each. -/
theorem of_rowsHold {f g : ℕ → BitVec 32} {i : ℕ} : ∀ {n : ℕ}, rowsHold f g i n = true → ∀ r, i ≤ r → r < i + n →
    rowHolds f g r (256 - r) = true
  | 0, _, _, hlo, hhi => absurd hhi (Nat.not_lt.mpr hlo)
  | n + 1, hn, r, hlo, hhi => by
    simp only [rowsHold, Bool.and_eq_true] at hn
    rcases Nat.lt_succ_iff_lt_or_eq.mp hhi with h | rfl
    · exact of_rowsHold hn.2 r hlo h
    · exact hn.1

/-! The reference's two tables, checked at every position, some 4000 at a time. -/

section

open Cert.ReferenceIdeal (lit0t lit1t)

theorem rows_0 : rowsHold lit0t lit1t 0 16 = true := by sl_kernel_rfl
theorem rows_16 : rowsHold lit0t lit1t 16 16 = true := by sl_kernel_rfl
theorem rows_32 : rowsHold lit0t lit1t 32 16 = true := by sl_kernel_rfl
theorem rows_48 : rowsHold lit0t lit1t 48 24 = true := by sl_kernel_rfl
theorem rows_72 : rowsHold lit0t lit1t 72 24 = true := by sl_kernel_rfl
theorem rows_96 : rowsHold lit0t lit1t 96 32 = true := by sl_kernel_rfl
theorem rows_128 : rowsHold lit0t lit1t 128 48 = true := by sl_kernel_rfl
theorem rows_176 : rowsHold lit0t lit1t 176 80 = true := by sl_kernel_rfl

/-- At the `j`-th position of row `i` the first table holds `i` and the second `i + j`. -/
theorem table {i j : ℕ} (h : i + j < 256) :
    lit0t (rowStart i + j) = BitVec.ofNat 32 i ∧ lit1t (rowStart i + j) = BitVec.ofNat 32 (i + j) := by
  refine of_rowHolds (n := 256 - i) ?_ j (by omega)
  by_cases h1 : i < 16; · exact of_rowsHold rows_0 i (by omega) (by omega)
  by_cases h2 : i < 32; · exact of_rowsHold rows_16 i (by omega) (by omega)
  by_cases h3 : i < 48; · exact of_rowsHold rows_32 i (by omega) (by omega)
  by_cases h4 : i < 72; · exact of_rowsHold rows_48 i (by omega) (by omega)
  by_cases h5 : i < 96; · exact of_rowsHold rows_72 i (by omega) (by omega)
  by_cases h6 : i < 128; · exact of_rowsHold rows_96 i (by omega) (by omega)
  by_cases h7 : i < 176; · exact of_rowsHold rows_128 i (by omega) (by omega)
  exact of_rowsHold rows_176 i (by omega) (by omega)

end

end Cert.Packed
-- ==== Proof.Gather.lean ====
/-
  A GATHER OF SINGLE ENTRIES FROM EVERY MATRIX OF A BATCH, read at an index. For a batch `x : [B, N, M]` and a list of
  index pairs `[K, 2]`, `x[:, rows, cols]` is one gather: the batch axis is taken whole, the two matrix axes are indexed.
-/
module

public import Idealize.ShloMosaic.Lib.ValueLayout

@[expose] public section

namespace Cert.Packed

open Idealize.ShloMosaic Idealize.ShloMosaic.ValueIdx

variable {α : Type}

/-- The gather's dimension numbers. -/
abbrev entryDims (B N M K : ℕ)
    (wf : GatherDims.WF ⟨3, ![B, N, M]⟩ ⟨2, ![K, 2]⟩ ⟨2, ![B, K]⟩ [0] [1, 2] [] [1, 2] [] 1 ![B, 1, 1]) :
    GatherDims ⟨3, ![B, N, M]⟩ ⟨2, ![K, 2]⟩ ⟨2, ![B, K]⟩ where
  offsetDims := [0]
  collapsedSliceDims := [1, 2]
  operandBatchingDims := []
  startIndicesBatchingDims := []
  startIndexMap := [1, 2]
  indexVectorDim := 1
  sliceSizes := ![B, 1, 1]
  wf := wf

/-- Where the `k`-th pair is `(i, j)`, within the matrix, the gather's `k`-th entry for matrix `b` is that matrix's entry
    at row `i`, column `j`. -/
theorem gather_entry_apply {B N M K w : ℕ}
    (wf : GatherDims.WF ⟨3, ![B, N, M]⟩ ⟨2, ![K, 2]⟩ ⟨2, ![B, K]⟩ [0] [1, 2] [] [1, 2] [] 1 ![B, 1, 1])
    (x : (⟨3, ![B, N, M]⟩ : Shape).Idx → α) (idx : IVec ⟨2, ![K, 2]⟩ w) (b : Fin B) (k : Fin K) (i : Fin N) (j : Fin M)
    (hi : (idx (ix2 k (0 : Fin 2))).toInt.toNat = i.val) (hj : (idx (ix2 k (1 : Fin 2))).toInt.toNat = j.val) :
    Host.gather (entryDims B N M K wf) x idx (ix2 b k) = x (ix3 b i j) := by
  have si : ∀ c : Fin 2, (entryDims B N M K wf).siIdx (ix2 b k) c = ix2 k c := fun c => funext fun a => Fin.ext (by
    match a with
    | ⟨0, _⟩ => rfl
    | ⟨1, _⟩ => rfl)
  unfold Host.gather
  refine congrArg x (funext fun a => Fin.ext ?_)
  show (entryDims B N M K wf).start (ix2 b k) idx a + (entryDims B N M K wf).batchCoord (ix2 b k) a
      + (entryDims B N M K wf).offCoord (ix2 b k) a = _
  rw [GatherDims.batchCoord_eq_zero _ _ _ List.not_mem_nil, Nat.add_zero]
  match a with
  | ⟨0, _⟩ =>
    refine (congrArg (· + (entryDims B N M K wf).offCoord (ix2 b k) (0 : Fin 3))
      (dif_neg (show (0 : Fin 3) ∉ [1, 2] by decide))).trans ((Nat.zero_add _).trans ?_)
    rfl
  | ⟨1, _⟩ =>
    rw [GatherDims.offCoord_eq_zero _ _ _ (fun h => ((GatherDims.mem_sKept _ _).mp h).1 List.mem_cons_self), Nat.add_zero]
    refine (dif_pos (show (1 : Fin 3) ∈ [1, 2] by decide)).trans ?_
    show min (idx ((entryDims B N M K wf).siIdx (ix2 b k) (0 : Fin 2))).toInt.toNat (N - 1) = i.val
    rw [si, hi]
    omega
  | ⟨2, _⟩ =>
    rw [GatherDims.offCoord_eq_zero _ _ _ (fun h => ((GatherDims.mem_sKept _ _).mp h).1
      (List.mem_cons_of_mem _ List.mem_cons_self)), Nat.add_zero]
    refine (dif_pos (show (2 : Fin 3) ∈ [1, 2] by decide)).trans ?_
    show min (idx ((entryDims B N M K wf).siIdx (ix2 b k) (1 : Fin 2))).toInt.toNat (M - 1) = j.val
    rw [si, hj]
    omega

end Cert.Packed
-- ==== Proof.RunReferenceIdeal.lean ====
/-
  THE REFERENCE'S RESULT. The gather of the entries that its two tables name, row and column, is the packed upper triangle.
-/
module

public import proofs.«01_k».proof.Proof.Gen.ReferenceIdeal.Run
public import proofs.«01_k».proof.Proof.Table
public import proofs.«01_k».proof.Proof.Gather

@[expose] public section

noncomputable section

namespace Cert.ReferenceIdeal.Pack

open Cert.ReferenceIdeal Cert.ReferenceIdeal.Gen Cert.Packed
open Idealize.ShloMosaic Idealize.ShloMosaic.TcCoe Idealize.ShloMosaic.ValueIdx Idealize.SL.Sem

/-- A table as the program uses it: a negative index would count from the end of its axis, 256 long. -/
abbrev wrapped (f : Fin 32896 → BitVec 32) : IVec S32896 32 :=
  select (cmpi .slt ((fun i => f (S32896.rowMajor i))) (broadcastInDim S32896 ![] bcast_S_S32896 (constantI S_ 32 0#32)))
    (addi ((fun i => f (S32896.rowMajor i))) (broadcastInDim S32896 ![] bcast_S_S32896 (constantI S_ 32 256#32)))
    ((fun i => f (S32896.rowMajor i)))

/-- The index pairs: the first table's entries beside the second's. -/
abbrev pairs : IVec S32896x2 32 :=
  concatenate S32896x2 1 [⟨S32896x1, broadcastInDim S32896x1 ![0] bcast_S32896_S32896x1_0 (wrapped lit0)⟩,
    ⟨S32896x1, broadcastInDim S32896x1 ![0] bcast_S32896_S32896x1_0 (wrapped lit1)⟩] concatenates_S32896x1_S32896x1_S32896x2_d1

/-- No index below 256 is negative, and each reads as itself. -/
theorem small_word : ∀ n < 256, IntOp.cmpi .slt (BitVec.ofNat 32 n) 0#32 = 0#1 ∧ (BitVec.ofNat 32 n).toInt.toNat = n := by
  decide +kernel

/-- Where a table holds a number below 256, so does the table as used. -/
theorem wrapped_apply (f : Fin 32896 → BitVec 32) (k : Fin 32896) (n : ℕ) (hn : n < 256) (hf : f k = BitVec.ofNat 32 n) :
    wrapped f (ix1 k) = BitVec.ofNat 32 n := by
  have hk : S32896.rowMajor (ix1 k) = k := Fin.ext (Shape.rowMajor_val_one _)
  show Scalar.select (IntOp.cmpi .slt (f (S32896.rowMajor (ix1 k))) 0#32) _ (f (S32896.rowMajor (ix1 k))) = _
  rw [hk, hf, (small_word n hn).1, select_zero]

/-- A table set up as a column, read at its `k`-th entry. -/
theorem column_apply (v : IVec S32896 32) (k : Fin 32896) :
    broadcastInDim S32896x1 ![0] bcast_S32896_S32896x1_0 v (ix2 k (0 : Fin 1)) = v (ix1 k) :=
  broadcastInDim_apply _ _ _ _ _ (fun a => by match a with | ⟨0, _⟩ => rfl)

theorem pairs_0 (k : Fin 32896) : pairs (ix2 k (0 : Fin 2)) = wrapped lit0 (ix1 k) :=
  (concatenate_pair_apply_left (t := S32896x2) (s₁ := S32896x1) (s₂ := S32896x1) 1 _ _ _ _ rfl (ix2 k (0 : Fin 1)) (fun a => by
    match a with
    | ⟨0, _⟩ => rfl
    | ⟨1, _⟩ => rfl)).trans (column_apply _ k)

theorem pairs_1 (k : Fin 32896) : pairs (ix2 k (1 : Fin 2)) = wrapped lit1 (ix1 k) :=
  (concatenate_pair_apply_right (t := S32896x2) (s₁ := S32896x1) (s₂ := S32896x1) 1 _ _ _ _ rfl rfl (ix2 k (0 : Fin 1)) (fun a ha => by
    match a with
    | ⟨0, _⟩ => rfl
    | ⟨1, _⟩ => exact absurd rfl ha) rfl).trans (column_apply _ k)

variable {F : FTy → Type} [FloatOps F]

/-- The gather at the index pairs is the packed batch, -/
theorem gather_apply (x : S1024x256x256.Idx → Elt F .f32) (b : Fin 1024) (k : Fin 32896) :
    Host.gather gather_S1024x256x256_S32896x2_S1024x32896_0_12_n_n_12_1_102411 x pairs (ix2 b k) = packed x (ix2 b k) := by
  obtain ⟨i, j, hij, hk⟩ := exists_entry k.isLt
  rw [packed_apply x b hij k hk]
  have h0 : lit0 k = BitVec.ofNat 32 i := (congrArg lit0t hk).trans (table hij).1
  have h1 : lit1 k = BitVec.ofNat 32 (i + j) := (congrArg lit1t hk).trans (table hij).2
  refine gather_entry_apply _ x pairs b k ⟨i, by omega⟩ ⟨i + j, hij⟩ ?_ ?_
  · rw [pairs_0, wrapped_apply lit0 _ i (by omega) h0]; exact (small_word i (by omega)).2
  · rw [pairs_1, wrapped_apply lit1 _ (i + j) hij h1]; exact (small_word (i + j) hij).2

/-- as arrays. -/
theorem gather_eq (x : S1024x256x256.Idx → Elt F .f32) :
    Host.gather gather_S1024x256x256_S32896x2_S1024x32896_0_12_n_n_12_1_102411 x pairs = packed x :=
  funext fun y => (congrArg _ (eq_ix2 y)).trans ((gather_apply x (y 0) (y 1)).trans (congrArg _ (eq_ix2 y).symm))

variable (m : (ℓ : Loc nD τ sig) → Buf (Elt F) ℓ) (ρ : Dev nD → PrngReg)

/-- The reference ends with its result at the packed argument, the argument as launched. -/
theorem run : θ_run defs (onTc (τ := τ) (main (F := F))) ⟨m, fun _ => 0, ρ⟩ fun r => ∀ c : Dev nD,
      r.2.mem ((c.tc : Thread nD τ).loc main_v13) = packed (n := 1024) (m ((c.tc : Thread nD τ).loc main_arg0))
      ∧ r.2.mem ((c.tc : Thread nD τ).loc main_arg0) = m ((c.tc : Thread nD τ).loc main_arg0) :=
  (θ_run defs _ _).mono (fun _ h c => ⟨(h c).1.trans (gather_eq _), (h c).2⟩) (Value.run m ρ)

end Cert.ReferenceIdeal.Pack

end
-- ==== Proof.lean ====
/-
  THE CERTIFICATE: the kernel, its ideal form and the reference each run to the end, leave the argument as launched and
  every semaphore counter at zero; and at the ideal instance the kernel's result is the reference's. Both results are
  shown to be the packed upper triangle of the argument (Proof/Packed.lean): the kernel's from its 256 stores per block
  (Proof/Rows.lean, Proof/RunKernelIdeal.lean), the reference's from its two index tables (Proof/Table.lean,
  Proof/RunReferenceIdeal.lean).
-/
module

public import proofs.«01_k».proof.Defs
public import proofs.«01_k».proof.Proof.RunKernel
public import proofs.«01_k».proof.Proof.RunReferenceIdeal
public import Idealize.ShloMosaic.Lib.Quiescent

@[expose] public section

noncomputable section

namespace Cert.Proof

open Idealize.ShloMosaic Idealize.SL.Sem Cert.Packed

/-- The kernel's frame. -/
theorem frame_kernel : Cert.quiescent_Kernel := fun m ρ _ => Cert.Same.frame m ρ

/-- The frame of its ideal form. -/
theorem frame_kernelIdeal : Cert.quiescent_KernelIdeal := fun m ρ _ => Cert.KernelIdeal.Pack.frame m ρ

/-- The reference's frame: it declares no semaphore. -/
theorem frame_referenceIdeal : Cert.quiescent_ReferenceIdeal := fun m ρ _ =>
  (θ_run Cert.ReferenceIdeal.defs _ _).mono
    (fun r h => ⟨fun c => (h c).2, sem_eq_zero_of_no_sems (by decide) r.2⟩) (Cert.ReferenceIdeal.Pack.run (F := Ideal) m ρ)

/-- From equal arguments both end with the packed argument. -/
theorem equal : Cert.algebraic_KernelIdeal_ReferenceIdeal := fun m ρ m' ρ' _ hargs =>
  ⟨fun c => packed (Cert.KernelIdeal.Pack.arg m c), Cert.KernelIdeal.Pack.run m ρ,
    (θ_run Cert.ReferenceIdeal.defs _ _).mono
      (fun _ h c => ⟨(h c).1.trans (congrArg (packed (n := 1024)) (hargs c)), (h c).2⟩)
      (Cert.ReferenceIdeal.Pack.run m' ρ')⟩

theorem claim : Cert.Claim :=
  ⟨Cert.Kernel.Gen.facts, Cert.KernelIdeal.Gen.facts, Cert.ReferenceIdeal.Gen.facts,
    frame_kernel, frame_kernelIdeal, frame_referenceIdeal, trivial, equal⟩

end Cert.Proof

end
